-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x8192 : Shape := ⟨3, ![8, 4096, 8192]⟩
abbrev S32 : Shape := ⟨1, ![32]⟩
abbrev S1x256x256 : Shape := ⟨3, ![1, 256, 256]⟩
abbrev S1x4096x256 : Shape := ⟨3, ![1, 4096, 256]⟩
abbrev S1 : Shape := ⟨1, ![1]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 3
  | _ => 0

abbrev bufTy : (tb : Table) → Fin (tcTables nBuf tb) → BufTy
  | .hbm, ⟨0, _⟩ => ⟨S8x4096x8192, .fp8e4m3⟩
  | .hbm, ⟨1, _⟩ => ⟨S32, .f32⟩
  | .hbm, ⟨2, _⟩ => ⟨S8x4096x8192, .fp8e4m3⟩
  | .hbm, ⟨3, _⟩ => ⟨S32, .f32⟩
  | .hbm, ⟨4, _⟩ => ⟨S8x4096x8192, .fp8e4m3⟩
  | .hbm, ⟨5, _⟩ => ⟨S32, .f32⟩
  | .hbm, ⟨6, _⟩ => ⟨S8x4096x8192, .bf16⟩
  | .local _ .vmem, ⟨0, _⟩ => ⟨S1x256x256, .fp8e4m3⟩
  | .local _ .vmem, ⟨1, _⟩ => ⟨S1x256x256, .fp8e4m3⟩
  | .local _ .vmem, ⟨2, _⟩ => ⟨S1x4096x256, .fp8e4m3⟩
  | .local _ .vmem, ⟨3, _⟩ => ⟨S1x4096x256, .fp8e4m3⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S1x256x256, .bf16⟩
  | .local _ .vmem, ⟨7, _⟩ => ⟨S1x256x256, .bf16⟩
  | .local _ .smem, ⟨0, _⟩ => ⟨S32, .f32⟩
  | .local _ .smem, ⟨1, _⟩ => ⟨S32, .f32⟩
  | .local _ .smem, ⟨2, _⟩ => ⟨S32, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 32, 16], ![false, false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x256x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x4096x8192 : Shape := ⟨3, ![8, 4096, 8192]⟩
abbrev S32 : Shape := ⟨1, ![32]⟩
abbrev S8x4096x32x1x256 : Shape := ⟨5, ![8, 4096, 32, 1, 256]⟩
abbrev S8x4096x32x256 : Shape := ⟨4, ![8, 4096, 32, 256]⟩
abbrev S32x1 : Shape := ⟨2, ![32, 1]⟩
abbrev S32x1x1x1 : Shape := ⟨4, ![32, 1, 1, 1]⟩
abbrev S8x32x4096x4096x1 : Shape := ⟨5, ![8, 32, 4096, 4096, 1]⟩
abbrev S8x32x1x4096x4096 : Shape := ⟨5, ![8, 32, 1, 4096, 4096]⟩
abbrev S1x32x1x1x1 : Shape := ⟨5, ![1, 32, 1, 1, 1]⟩
abbrev S8x32x1x4096 : Shape := ⟨4, ![8, 32, 1, 4096]⟩
abbrev S8x32x1x4096x1 : Shape := ⟨5, ![8, 32, 1, 4096, 1]⟩
abbrev S8x32x256x1x4096 : Shape := ⟨5, ![8, 32, 256, 1, 4096]⟩
abbrev S32x1x1 : Shape := ⟨3, ![32, 1, 1]⟩
abbrev S1x1x32x1x1 : Shape := ⟨5, ![1, 1, 32, 1, 1]⟩
abbrev S8x4096x32x1 : Shape := ⟨4, ![8, 4096, 32, 1]⟩
abbrev S8x4096x32x1x1 : Shape := ⟨5, ![8, 4096, 32, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x8192, .fp8e4m3⟩
  | .hbm, ⟨1, _⟩ => ⟨S32, .f32⟩
  | .hbm, ⟨2, _⟩ => ⟨S8x4096x8192, .fp8e4m3⟩
  | .hbm, ⟨3, _⟩ => ⟨S32, .f32⟩
  | .hbm, ⟨4, _⟩ => ⟨S8x4096x8192, .fp8e4m3⟩
  | .hbm, ⟨5, _⟩ => ⟨S32, .f32⟩
  | .hbm, ⟨6, _⟩ => ⟨S8x4096x8192, .bf16⟩
  | .local _ .vmem, ⟨0, _⟩ => ⟨S8x4096x8192, .fp8e4m3⟩
  | .local _ .vmem, ⟨1, _⟩ => ⟨S32, .f32⟩
  | .local _ .vmem, ⟨2, _⟩ => ⟨S8x4096x8192, .fp8e4m3⟩
  | .local _ .vmem, ⟨3, _⟩ => ⟨S32, .f32⟩
  | .local _ .vmem, ⟨4, _⟩ => ⟨S8x4096x8192, .fp8e4m3⟩
  | .local _ .vmem, ⟨5, _⟩ => ⟨S32, .f32⟩
  | .local _ .vmem, ⟨6, _⟩ => ⟨S8x4096x8192, .bf16⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/-
  What one element of quantised attention is over the extended reals: a function of one query row, the keys and one
  column of the values of the same head, and the head's two scales.
-/
module

public import Idealize.ShloMosaic.Lib.Pointwise

@[expose] public section

noncomputable section

namespace Cert.Proof.Spec

open Idealize.ShloMosaic

/-- The score of a query row `q` against key `j`: their inner product times the scale of the head's scores. -/
def score (q : Fin 256 → EReal) (k : Fin 4096 → Fin 256 → EReal) (scale : EReal) (j : Fin 4096) : EReal :=
  (∑ d : Fin 256, q d * k j d) * scale

/-- The unnormalised softmax weight of key `j`: the exponential of its score less the row's maximum. -/
def weight (q : Fin 256 → EReal) (k : Fin 4096 → Fin 256 → EReal) (scale : EReal) (j : Fin 4096) : EReal :=
  Ideal.exp (score q k scale j - Finset.univ.fold max (Ideal.ofBits .f32 0xFF800000#32) (score q k scale))

/-- The code of a weight: 256 times it, clipped to ±448. -/
def code (p : EReal) : EReal :=
  min (Ideal.ofBits .f32 0x43E00000#32) (max (Ideal.ofBits .f32 0xC3E00000#32) (p * Ideal.ofBits .f32 0x43800000#32))

/-- One element of the result: the codes against a column `v` of the values, times the values' scale over 256, over
    the sum of the row's weights. -/
def out (q : Fin 256 → EReal) (k : Fin 4096 → Fin 256 → EReal) (v : Fin 4096 → EReal) (scale vscale : EReal) : EReal :=
  Ideal.div ((∑ j : Fin 4096, code (weight q k scale j) * v j) * (vscale * Ideal.ofBits .f32 0x3B800000#32))
    (∑ j : Fin 4096, weight q k scale j)

end Cert.Proof.Spec

end
-- ==== Proof.Block.lean ====
/-
  What one grid point of the kernel computes: the block it stores, read at a row and a column.
-/
module

public import proofs.«01_k».proof.Proof.Spec
public import proofs.«01_k».proof.Proof.Gen.KernelIdeal.Skeleton

@[expose] public section

noncomputable section

namespace Cert.Proof.Block

open Idealize.ShloMosaic Cert.KernelIdeal Cert.KernelIdeal.Gen Cert.Proof.Spec

/-- The block a grid point stores, at row `r` and column `d`: attention of query row `r` of the point's query block over
    the keys and column `d` of the values of its head. -/
theorem pay_apply (qs ks vs : Elt Ideal .f32) (q : Vec Ideal S1x256x256 .fp8e4m3) (k v : Vec Ideal S1x4096x256 .fp8e4m3)
    (r d : Fin 256) :
    k0_pay1 (k0_pay2 (F := Ideal) qs ks q k v vs) (ix3 0 r d)
      = out (fun e => q (ix3 0 r e)) (fun j e => k (ix3 0 j e)) (fun j => v (ix3 0 j d))
          (qs * ks * Ideal.ofBits .f32 0x3D800000#32) vs := by
  pointwise [k0_pay1, k0_pay2, out, code, weight, score]

end Cert.Proof.Block

end
-- ==== Proof.Whole.lean ====
/-
  What the reference computes: the whole result array, read at an index.
-/
module

public import proofs.«01_k».proof.Proof.Spec
public import proofs.«01_k».proof.Proof.Gen.ReferenceIdeal.Value

@[expose] public section

noncomputable section

namespace Cert.Proof.Whole

open Idealize.ShloMosaic Cert.ReferenceIdeal Cert.ReferenceIdeal.Gen Cert.Proof.Spec

/-- Feature `d` of head `h` is column `256 h + d` of an argument array. -/
def col (h : Fin 32) (d : Fin 256) : Fin 8192 := ⟨h.val * 256 + d.val, by omega⟩

/-- The scores' weights, at batch `b`, head `h`, query `r` and key `j`. -/
theorem weight_apply (x k : Vec Ideal S8x4096x8192 .fp8e4m3) (qs ks : Vec Ideal S32 .f32)
    (b : Fin 8) (h : Fin 32) (r j : Fin 4096) :
    k0_pay2 (F := Ideal) x k qs ks (ix5 b h 0 r j)
      = weight (fun e => x (ix3 b r (col h e))) (fun j e => k (ix3 b j (col h e)))
          (qs (ix1 h) * ks (ix1 h) * Ideal.ofBits .f32 0x3D800000#32) j := by
  pointwise [k0_pay2, weight, score]
  simp only [fun a b => mul_comm (k a) (x b)]
  rfl

/-- The reference's result array at batch `b`, row `r` and feature `d` of head `h`: attention of that query row over the
    head's keys and column `d` of its values. -/
theorem pay_apply (x k v : Vec Ideal S8x4096x8192 .fp8e4m3) (qs ks vs : Vec Ideal S32 .f32)
    (b : Fin 8) (r : Fin 4096) (h : Fin 32) (d : Fin 256) :
    k0_pay1 (F := Ideal) (k0_pay3 x k qs ks) (k0_pay4 x k v qs ks) (k0_pay5 vs) (ix3 b r (col h d))
      = out (fun e => x (ix3 b r (col h e))) (fun j e => k (ix3 b j (col h e))) (fun j => v (ix3 b j (col h d)))
          (qs (ix1 h) * ks (ix1 h) * Ideal.ofBits .f32 0x3D800000#32) (vs (ix1 h)) := by
  have hv : (col h d).val = h.val * 256 + d.val := rfl
  have hd := d.isLt
  have hq : (col h d).val / 256 = h.val := by omega
  pointwise [k0_pay1, k0_pay3, k0_pay4, k0_pay5, out, code]
  simp only [hq, Fin.eta, weight_apply, mul_comm (v _)]

end Cert.Proof.Whole

end
-- ==== Proof.KernelValue.lean ====
/-
  What the kernel's run leaves in its result array: at every index, attention of the query row there over its head.
-/
module

public import proofs.«01_k».proof.Proof.Block
public import proofs.«01_k».proof.Proof.Whole
public import proofs.«01_k».proof.Proof.Gen.KernelIdeal.Value
public import Idealize.ShloMosaic.Lib.Pipeline.ValueKit
public import Idealize.ShloMosaic.Lib.Pipeline.Covers

@[expose] public section

noncomputable section

namespace Cert.Proof.KernelValue

open Idealize.ShloMosaic Idealize.ShloMosaic.TcCoe Idealize.SL.Sem Cert.KernelIdeal Cert.KernelIdeal.Gen Cert.Proof.Spec
open Cert.Proof.Whole (col)

theorem hz : (![0, 0, 0] : Fin 3 → Nat) = fun _ => 0 := funext fun a => by fin_cases a <;> rfl

/-- The head of a grid point. -/
abbrev headOf (i : grid0.Coords) : Fin 32 := ⟨(i 1).val, (i 1).isLt⟩

/-- A scalar load of the word of a point's head reads that word. -/
theorem word_eq (i : grid0.Coords) (x : Vec Ideal S32 .f32) (h) (j : S1.Idx) :
    x ((Rect.unit (s := S32) (k0_off1 i) S1.size h).idx j) = x (ix1 (headOf i)) := by
  congr 1
  funext a
  apply Fin.ext
  match a with
  | ⟨0, _⟩ =>
    show k0_off1 i 0 + 1 * (j 0).val = (i 1).val
    have e : k0_off1 i 0 = (i 1).val := by rw [k0_off1_eq]; rfl
    have hj : (j 0).val < 1 := (j 0).isLt
    omega

/-- What one grid point leaves in the output's staging buffer is the payload of its input blocks and the scales of its
    head: its one store is through the whole buffer, its vector loads read whole blocks. -/
theorem out_eq (c : Dev nD) (i : grid0.Coords) (a3 : Memref sig .tc .smem S32 .f32) (h3 : a3.IsWhole)
    (a4 : Memref sig .tc .smem S32 .f32) (h4 : a4.IsWhole) (a5 : Memref sig .tc .smem S32 .f32) (h5 : a5.IsWhole)
    (a6 : Memref sig .tc .vmem S1x256x256 .fp8e4m3) (h6 : a6.IsWhole)
    (a7 : Memref sig .tc .vmem S1x4096x256 .fp8e4m3) (h7 : a7.IsWhole)
    (a8 : Memref sig .tc .vmem S1x4096x256 .fp8e4m3) (h8 : a8.IsWhole)
    (a9 : Memref sig .tc .vmem S1x256x256 .bf16) (h9 : a9.IsWhole)
    (x0 x1 x2 : Vec Ideal S32 .f32) (x3 : Vec Ideal S1x256x256 .fp8e4m3) (x4 x5 : Vec Ideal S1x4096x256 .fp8e4m3) :
    out0_A_6 c i a3 h3 a4 h4 a5 h5 a6 h6 a7 h7 a8 h8 a9 h9 x0 x1 x2 x3 x4 x5
      = k0_pay1 (k0_pay2 (F := Ideal) (x0 (ix1 (headOf i))) (x1 (ix1 (headOf i))) x3 x4 x5 (x2 (ix1 (headOf i)))) := by
  unfold out0_A_6
  rw [View.read_writes_junk_eq_canon]
  unfold kernelRun0_A
  dsimp only
  sl_unfold_words
  rw [View.canon_unit_zero hz]
  simp only [View.readAt_eq_ld, h3.read_unread, h4.read_unread, h5.read_unread, h6.read_unread, h7.read_unread,
    h8.read_unread, View.ld_unit_zero (S := S1x256x256) hz, View.ld_unit_zero (S := S1x4096x256) hz]
  have e0 := word_eq i x0 (k0_off1_inb i) (Shape.Idx.first (numel1_S1.symm ▸ Nat.one_pos))
  have e1 := word_eq i x1 (k0_off1_inb i) (Shape.Idx.first (numel1_S1.symm ▸ Nat.one_pos))
  have e2 := word_eq i x2 (k0_off1_inb i) (Shape.Idx.first (numel1_S1.symm ▸ Nat.one_pos))
  rw [← e0, ← e1, ← e2]
  rfl

variable (m : (ℓ : Loc nD τ sig) → Buf (Elt Ideal) ℓ)

/-- The result array as a function of the argument arrays: at batch `b`, row `r` and feature `d` of head `h`, attention
    of that query row over the head's keys and column `d` of its values. -/
abbrev G (c : Dev nD) : Vec Ideal S8x4096x8192 .bf16 :=
  Cert.ReferenceIdeal.Value.G6 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-! ## Where the blocks lie -/

/-- The number of a small grid coordinate, printed as a 32-bit word, is itself. -/
theorem word_toNat {n : Nat} (h : n < 4096) : (BitVec.ofNat 32 n).toNat = n := by
  rw [BitVec.toNat_ofNat]; exact Nat.mod_eq_of_lt (by omega)

theorem lt0 (i : grid0.Coords) : (i 0).val < 8 := (i 0).isLt
theorem lt1 (i : grid0.Coords) : (i 1).val < 32 := (i 1).isLt
theorem lt2 (i : grid0.Coords) : (i 2).val < 16 := (i 2).isLt

/-- The batch of a grid point. -/
abbrev batchOf (i : grid0.Coords) : Fin 8 := ⟨(i 0).val, (i 0).isLt⟩

/-- Row `r` of a grid point's query block, as a row of the array. -/
def rowOf (i : grid0.Coords) (r : Fin 256) : Fin 4096 := ⟨(i 2).val * 256 + r.val, by have := lt2 i; omega⟩

/-- The query and result blocks' indices: batch, query block, head. -/
theorem map6 (i : grid0.Coords) : cc0_transform_6 i = ![(i 0).val, (i 2).val, (i 1).val] := by
  have := lt0 i; have := lt1 i; have := lt2 i
  simp only [cc0_transform_6, word_toNat (n := (i 0).val) (by omega), word_toNat (n := (i 1).val) (by omega),
    word_toNat (n := (i 2).val) (by omega)]

theorem map3 (i : grid0.Coords) : cc0_transform_3 i = ![(i 0).val, (i 2).val, (i 1).val] := map6 i

/-- The key and value blocks' indices: batch, zero, head. -/
theorem map4 (i : grid0.Coords) : cc0_transform_4 i = ![(i 0).val, 0, (i 1).val] := by
  have := lt0 i; have := lt1 i
  simp only [cc0_transform_4, word_toNat (n := (i 0).val) (by omega), word_toNat (n := (i 1).val) (by omega)]
  rfl

theorem map5 (i : grid0.Coords) : cc0_transform_5 i = ![(i 0).val, 0, (i 1).val] := map4 i

/-- Row `r`, column `d` of the result block at point `t` is row `256 q + r`, feature `d` of head `h` of the array. -/
theorem emb6 (t : Fin cfg0.N) (r d : Fin 256) :
    (win0_6.blk t).view.emb (ix3 0 r d)
      = ix3 (batchOf (grid0.coords t)) (rowOf (grid0.coords t) r) (col (headOf (grid0.coords t)) d) := by
  have e := map6 (grid0.coords t)
  funext a; apply Fin.ext
  match a with
  | ⟨0, _⟩ => show cc0_transform_6 (grid0.coords t) 0 * 1 + 1 * 0 = (grid0.coords t 0).val; rw [e]; simp
  | ⟨1, _⟩ => show cc0_transform_6 (grid0.coords t) 1 * 256 + 1 * r.val = (grid0.coords t 2).val * 256 + r.val; rw [e]; simp
  | ⟨2, _⟩ => show cc0_transform_6 (grid0.coords t) 2 * 256 + 1 * d.val = (grid0.coords t 1).val * 256 + d.val; rw [e]; simp

/-- A point's query block, read at a row and a feature. -/
theorem iblk3_apply (c : Dev nD) (t : Fin cfg0.N) (r d : Fin 256) :
    iblk m c 3 t (ix3 0 r d) = m ((c : Thread nD τ).loc main_arg0)
      (ix3 (batchOf (grid0.coords t)) (rowOf (grid0.coords t) r) (col (headOf (grid0.coords t)) d)) := by
  rw [← V_main_arg0 m c]
  show V m c main_arg0 ((win0_3.blk t).view.emb (ix3 0 r d)) = _
  congr 1
  have e := map3 (grid0.coords t)
  funext a; apply Fin.ext
  match a with
  | ⟨0, _⟩ => show cc0_transform_3 (grid0.coords t) 0 * 1 + 1 * 0 = (grid0.coords t 0).val; rw [e]; simp
  | ⟨1, _⟩ => show cc0_transform_3 (grid0.coords t) 1 * 256 + 1 * r.val = (grid0.coords t 2).val * 256 + r.val; rw [e]; simp
  | ⟨2, _⟩ => show cc0_transform_3 (grid0.coords t) 2 * 256 + 1 * d.val = (grid0.coords t 1).val * 256 + d.val; rw [e]; simp

/-- A point's key block, read at a key and a feature. -/
theorem iblk4_apply (c : Dev nD) (t : Fin cfg0.N) (j : Fin 4096) (d : Fin 256) :
    iblk m c 4 t (ix3 0 j d) = m ((c : Thread nD τ).loc main_arg2)
      (ix3 (batchOf (grid0.coords t)) j (col (headOf (grid0.coords t)) d)) := by
  rw [← V_main_arg2 m c]
  show V m c main_arg2 ((win0_4.blk t).view.emb (ix3 0 j d)) = _
  congr 1
  have e := map4 (grid0.coords t)
  funext a; apply Fin.ext
  match a with
  | ⟨0, _⟩ => show cc0_transform_4 (grid0.coords t) 0 * 1 + 1 * 0 = (grid0.coords t 0).val; rw [e]; simp
  | ⟨1, _⟩ => show cc0_transform_4 (grid0.coords t) 1 * 4096 + 1 * j.val = j.val; rw [e]; simp
  | ⟨2, _⟩ => show cc0_transform_4 (grid0.coords t) 2 * 256 + 1 * d.val = (grid0.coords t 1).val * 256 + d.val; rw [e]; simp

/-- A point's value block, read at a key and a feature. -/
theorem iblk5_apply (c : Dev nD) (t : Fin cfg0.N) (j : Fin 4096) (d : Fin 256) :
    iblk m c 5 t (ix3 0 j d) = m ((c : Thread nD τ).loc main_arg4)
      (ix3 (batchOf (grid0.coords t)) j (col (headOf (grid0.coords t)) d)) := by
  rw [← V_main_arg4 m c]
  show V m c main_arg4 ((win0_5.blk t).view.emb (ix3 0 j d)) = _
  congr 1
  have e := map5 (grid0.coords t)
  funext a; apply Fin.ext
  match a with
  | ⟨0, _⟩ => show cc0_transform_5 (grid0.coords t) 0 * 1 + 1 * 0 = (grid0.coords t 0).val; rw [e]; simp
  | ⟨1, _⟩ => show cc0_transform_5 (grid0.coords t) 1 * 4096 + 1 * j.val = j.val; rw [e]; simp
  | ⟨2, _⟩ => show cc0_transform_5 (grid0.coords t) 2 * 256 + 1 * d.val = (grid0.coords t 1).val * 256 + d.val; rw [e]; simp

/-- The blocks of the three scale arrays are the arrays. -/
theorem iblk0_apply (c : Dev nD) (t : Fin cfg0.N) (h : Fin 32) :
    iblk m c 0 t (ix1 h) = m ((c : Thread nD τ).loc main_arg1) (ix1 h) := by
  rw [← V_main_arg1 m c]
  show V m c main_arg1 ((win0_0.blk t).view.emb (ix1 h)) = _
  congr 1
  funext a; apply Fin.ext
  match a with
  | ⟨0, _⟩ => show 0 * 32 + 1 * h.val = h.val; omega

theorem iblk1_apply (c : Dev nD) (t : Fin cfg0.N) (h : Fin 32) :
    iblk m c 1 t (ix1 h) = m ((c : Thread nD τ).loc main_arg3) (ix1 h) := by
  rw [← V_main_arg3 m c]
  show V m c main_arg3 ((win0_1.blk t).view.emb (ix1 h)) = _
  congr 1
  funext a; apply Fin.ext
  match a with
  | ⟨0, _⟩ => show 0 * 32 + 1 * h.val = h.val; omega

theorem iblk2_apply (c : Dev nD) (t : Fin cfg0.N) (h : Fin 32) :
    iblk m c 2 t (ix1 h) = m ((c : Thread nD τ).loc main_arg5) (ix1 h) := by
  rw [← V_main_arg5 m c]
  show V m c main_arg5 ((win0_2.blk t).view.emb (ix1 h)) = _
  congr 1
  funext a; apply Fin.ext
  match a with
  | ⟨0, _⟩ => show 0 * 32 + 1 * h.val = h.val; omega

/-- The output's blocks tile its array: every block index is some grid point's. -/
theorem covers : win0_6.Covers :=
  win0_6.covers_of_indexMap_surj rfl (by decide) fun β => by
    let i : grid0.Coords := fun a => match a with
      | ⟨0, _⟩ => ⟨(β 0).val, (β 0).isLt⟩
      | ⟨1, _⟩ => ⟨(β 2).val, (β 2).isLt⟩
      | ⟨2, _⟩ => ⟨(β 1).val, (β 1).isLt⟩
    refine ⟨i, fun a => ?_⟩
    show cc0_transform_6 i a = (β a).val
    rw [map6 i]
    match a with
    | ⟨0, _⟩ => rfl
    | ⟨1, _⟩ => rfl
    | ⟨2, _⟩ => rfl

/-! ## The result array -/

/-- The result array ends at `G` of the arguments. -/
theorem final (c : Dev nD) : (dats m 0 c).arrAt 6 cfg0.N = G m c := by
  refine (dats m 0 c).arrAt_eq_of_covers 6 _ covers fun t hf y => ?_
  blk_simp
  rw [after0_6]
  unfold outsAt0
  rw [out_eq]
  obtain ⟨r, d, rfl⟩ : ∃ r d : Fin 256, y = ix3 0 r d := ⟨y 1, y 2, funext fun a => by
    match a with
    | ⟨0, _⟩ => exact Subsingleton.elim (α := Fin 1) _ _
    | ⟨1, _⟩ => rfl
    | ⟨2, _⟩ => rfl⟩
  refine (Block.pay_apply _ _ _ _ _ _ r d).trans ?_
  rw [emb6]
  refine Eq.trans ?_ (Whole.pay_apply _ _ _ _ _ _ _ _ _ _).symm
  simp only [iblk0_apply, iblk1_apply, iblk2_apply, iblk3_apply, iblk4_apply, iblk5_apply]

/-- The kernel's run from any memory: the result array at `G` of the arguments, the arguments unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩)
    (Cert.KernelIdeal.Value.run_blocks m ρ)

end Cert.Proof.KernelValue

end
-- ==== Proof.lean ====
module

public import proofs.«01_k».proof.Defs
public import proofs.«01_k».proof.Proof.KernelValue
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel and the reference, over the extended reals and from equal arguments, end with equal result arrays: both at
    the reference's whole-array function of the arguments. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => KernelValue.G m c, KernelValue.run m g,
    (θ_run _ _ _).mono (fun _ h c => ⟨(h c).1.trans (by
      obtain ⟨e0, e1, e2, e3, e4, e5⟩ := hargs c
      rw [e0, e1, e2, e3, e4, e5]), (h c).2⟩) (Cert.ReferenceIdeal.Value.run m' g')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
